-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_sqrt_2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S1x64x32x1024 : Shape := ⟨4, ![1, 64, 32, 1024]⟩
abbrev S64x4096x1024 : Shape := ⟨3, ![64, 4096, 1024]⟩
abbrev S64x1024x4096 : Shape := ⟨3, ![64, 1024, 4096]⟩
abbrev S1x1x32x1024 : Shape := ⟨4, ![1, 1, 32, 1024]⟩
abbrev S1x2048x1024 : Shape := ⟨3, ![1, 2048, 1024]⟩
abbrev S1x1024x2048 : Shape := ⟨3, ![1, 1024, 2048]⟩
abbrev S32x1024 : Shape := ⟨2, ![32, 1024]⟩
abbrev S2048x1024 : Shape := ⟨2, ![2048, 1024]⟩
abbrev S32x2048 : Shape := ⟨2, ![32, 2048]⟩
abbrev S1024x2048 : Shape := ⟨2, ![1024, 2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x64, .f32⟩
  | .hbm, ⟨1, _⟩ => ⟨S1x64x32x1024, .f32⟩
  | .hbm, ⟨2, _⟩ => ⟨S64x4096x1024, .f32⟩
  | .hbm, ⟨3, _⟩ => ⟨S64x1024x4096, .f32⟩
  | .hbm, ⟨4, _⟩ => ⟨S1x64x32x1024, .f32⟩
  | .local _ .vmem, ⟨0, _⟩ => ⟨S1x1x32x1024, .f32⟩
  | .local _ .vmem, ⟨1, _⟩ => ⟨S1x1x32x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x32x1024, .f32⟩
  | .local _ .vmem, ⟨7, _⟩ => ⟨S1x1x32x1024, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_13 : BitVec 32 := 0#32
  let v18 : BitVec 1 := Scalar.cmpi .ne v17 c0_i32_13
  v18

def k0_cond2 (i : grid0.Coords) : BitVec 1 :=
  let arg1 : BitVec 32 := BitVec.ofNat 32 (i 1).val
  let c0_i32_14 : BitVec 32 := 0#32
  let v19 : BitVec 1 := Scalar.cmpi .ne arg1 c0_i32_14
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "inv_sqrt_2" => some (((Real.sqrt 2)⁻¹ : ℝ) : EReal)
  | _ => none
-- ==== ReferenceIdeal.lean ====
abbrev S2048x64 : Shape := ⟨2, ![2048, 64]⟩
abbrev S1x64x32x1024 : Shape := ⟨4, ![1, 64, 32, 1024]⟩
abbrev S64x4096x1024 : Shape := ⟨3, ![64, 4096, 1024]⟩
abbrev S64x1024x4096 : Shape := ⟨3, ![64, 1024, 4096]⟩
abbrev S64x4096x1x32 : Shape := ⟨4, ![64, 4096, 1, 32]⟩
abbrev S1x64x32x4096 : Shape := ⟨4, ![1, 64, 32, 4096]⟩
abbrev S_ : Shape := ⟨0, ![]⟩
abbrev S64x1024x1x32 : Shape := ⟨4, ![64, 1024, 1, 32]⟩
abbrev S1x0x32x1024 : Shape := ⟨4, ![1, 0, 32, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S1x64x32x1024, .f32⟩
  | .hbm, ⟨2, _⟩ => ⟨S64x4096x1024, .f32⟩
  | .hbm, ⟨3, _⟩ => ⟨S64x1024x4096, .f32⟩
  | .hbm, ⟨4, _⟩ => ⟨S64x4096x1x32, .f32⟩
  | .hbm, ⟨5, _⟩ => ⟨S1x64x32x4096, .f32⟩
  | .hbm, ⟨6, _⟩ => ⟨S_, .f32⟩
  | .hbm, ⟨7, _⟩ => ⟨S1x64x32x4096, .f32⟩
  | .hbm, ⟨8, _⟩ => ⟨S1x64x32x4096, .f32⟩
  | .hbm, ⟨9, _⟩ => ⟨S1x64x32x4096, .f32⟩
  | .hbm, ⟨10, _⟩ => ⟨S_, .f32⟩
  | .hbm, ⟨11, _⟩ => ⟨S_, .f32⟩
  | .hbm, ⟨12, _⟩ => ⟨S1x64x32x4096, .f32⟩
  | .hbm, ⟨13, _⟩ => ⟨S1x64x32x4096, .f32⟩
  | .hbm, ⟨14, _⟩ => ⟨S1x64x32x4096, .f32⟩
  | .hbm, ⟨15, _⟩ => ⟨S1x64x32x4096, .f32⟩
  | .hbm, ⟨16, _⟩ => ⟨S64x1024x1x32, .f32⟩
  | .hbm, ⟨17, _⟩ => ⟨S1x64x32x1024, .f32⟩
  | .hbm, ⟨18, _⟩ => ⟨S1x0x32x1024, .f32⟩
  | .hbm, ⟨19, _⟩ => ⟨S_, .f32⟩
  | .hbm, ⟨20, _⟩ => ⟨S1x0x32x1024, .f32⟩
  | .hbm, ⟨21, _⟩ => ⟨S1x64x32x1024, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Spec.lean ====
/-
  The mathematics both programs are held against: a two-layer perceptron with the exact gelu, one per expert, over
  the extended reals; and that its second sum may be taken in two halves.
-/
module

public import Idealize.ShloMosaic.Lib.Pointwise

@[expose] public section

noncomputable section

namespace Cert.Ffn

open Idealize.ShloMosaic
open scoped BigOperators

/-- The pattern of `0.5` denotes one half. -/
theorem half_eq : Ideal.ofBits .f32 0x3F000000#32 = ((1 / 2 : ℝ) : EReal) := by
  simp [Ideal.ofBits, Ideal.ieee, -EReal.coe_mul]
  norm_num

/-- The root of one half is the inverse of the root of two. -/
theorem sqrt_half_eq : Ideal.sqrt ((1 / 2 : ℝ) : EReal) = (((Real.sqrt 2)⁻¹ : ℝ) : EReal) := by
  rw [Ideal.sqrt_coe, if_neg (by norm_num), one_div, Real.sqrt_inv]

/-- The exact gelu: `h / 2 · (1 + erf (h / √2))`. -/
def act (h : EReal) : EReal :=
  ((1 / 2 : ℝ) : EReal) * h * (1 + Ideal.erf (h * (((Real.sqrt 2)⁻¹ : ℝ) : EReal)))

/-- The hidden unit `f` of expert `e` at its token `c`, before the gelu. -/
def hidden (x : (⟨4, ![1, 64, 32, 1024]⟩ : Shape).Idx → EReal) (w0 : (⟨3, ![64, 4096, 1024]⟩ : Shape).Idx → EReal)
    (e : Fin 64) (c : Fin 32) (f : Fin 4096) : EReal :=
  ∑ k : Fin 1024, x (ix4 0 e c k) * w0 (ix3 e f k)

/-- What hidden unit `f` adds to output coordinate `d`. -/
def term (x : (⟨4, ![1, 64, 32, 1024]⟩ : Shape).Idx → EReal) (w0 : (⟨3, ![64, 4096, 1024]⟩ : Shape).Idx → EReal)
    (w1 : (⟨3, ![64, 1024, 4096]⟩ : Shape).Idx → EReal) (e : Fin 64) (c : Fin 32) (d : Fin 1024) (f : Fin 4096) : EReal :=
  act (hidden x w0 e c f) * w1 (ix3 e d f)

/-- The output of the experts, at an index of the result. -/
def out (x : (⟨4, ![1, 64, 32, 1024]⟩ : Shape).Idx → EReal) (w0 : (⟨3, ![64, 4096, 1024]⟩ : Shape).Idx → EReal)
    (w1 : (⟨3, ![64, 1024, 4096]⟩ : Shape).Idx → EReal) : (⟨4, ![1, 64, 32, 1024]⟩ : Shape).Idx → EReal :=
  fun j => ∑ f : Fin 4096, term x w0 w1 (j 1) (j 2) (j 3) f

/-- Hidden unit `k` of half `b` (0 or 1) of the 4096. -/
def unit (b : Fin 2) (k : Fin 2048) : Fin 4096 := ⟨2048 * b.val + k.val, by omega⟩

/-- A sum over the 4096 hidden units is the sum over the first 2048 plus the sum over the last 2048. -/
theorem sum_halves (F : Fin 4096 → EReal) :
    ∑ f : Fin 4096, F f = (∑ k : Fin 2048, F (unit 0 k)) + ∑ k : Fin 2048, F (unit 1 k) := by
  rw [show (∑ f : Fin 4096, F f) = ∑ f : Fin (2048 + 2048), F f from rfl, Fin.sum_univ_add]
  refine congrArg₂ (· + ·) (Finset.sum_congr rfl fun k _ => congrArg F (Fin.ext ?_))
    (Finset.sum_congr rfl fun k _ => congrArg F (Fin.ext ?_))
  · simp [unit]
  · simp [unit, Nat.add_comm]

end Cert.Ffn
-- ==== Proof.Block.lean ====
/-
  What one grid point computes: the kernel's block product at an index, and what each of the two kinds of grid point
  leaves in the output's block.
-/
module

public import proofs.«01_k».proof.Proof.Gen.KernelIdeal.Value
public import proofs.«01_k».proof.Proof.Spec

@[expose] public section

noncomputable section

namespace Cert.KernelIdeal.Ffn

open Idealize.ShloMosaic Idealize.ShloMosaic.TcCoe Idealize.SL.Sem Cert.KernelIdeal Cert.KernelIdeal.Gen Cert.Ffn
open scoped BigOperators

/-- The named constant is the inverse of the root of two. -/
theorem inv_sqrt_2_eq :
    (Named.named κ "inv_sqrt_2" 0x3F3504F3#32 : Ideal .f32) = (((Real.sqrt 2)⁻¹ : ℝ) : EReal) :=
  IdealRules.named_const.ideal_named_scalar _ _ _ _ rfl

/-- A hidden unit of the block before the gelu: a row of the token block against a row of the first weights' block. -/
def bhidden (x : FVec Ideal S1x1x32x1024 .f32) (w0 : FVec Ideal S1x2048x1024 .f32) (r : Fin 32) (k : Fin 2048) : EReal :=
  ∑ i : Fin 1024, x (ix4 0 0 r i) * w0 (ix3 0 k i)

/-- What the block's hidden units add to output coordinate `d` of token `r`. -/
def part (x : FVec Ideal S1x1x32x1024 .f32) (w0 : FVec Ideal S1x2048x1024 .f32) (w1 : FVec Ideal S1x1024x2048 .f32)
    (r : Fin 32) (d : Fin 1024) : EReal :=
  ∑ k : Fin 2048, act (bhidden x w0 r k) * w1 (ix3 0 d k)

/-- The block product at an index. -/
theorem pay1_apply (x : FVec Ideal S1x1x32x1024 .f32) (w0 : FVec Ideal S1x2048x1024 .f32) (w1 : FVec Ideal S1x1024x2048 .f32)
    (r : Fin 32) (d : Fin 1024) : k0_pay1 (F := Ideal) x w0 w1 (ix2 r d) = part x w0 w1 r d := by
  unfold k0_pay1
  rw [inv_sqrt_2_eq]
  pointwise
  simp only [half_eq]
  rfl

/-- What an even point stores, at an index: the block product. -/
theorem pay2_apply (x : FVec Ideal S1x1x32x1024 .f32) (w0 : FVec Ideal S1x2048x1024 .f32) (w1 : FVec Ideal S1x1024x2048 .f32)
    (r : Fin 32) (d : Fin 1024) : k0_pay2 (F := Ideal) x w0 w1 (ix4 0 0 r d) = part x w0 w1 r d := by
  unfold k0_pay2
  rw [← pay1_apply]
  generalize k0_pay1 (F := Ideal) x w0 w1 = p
  pointwise

/-- What an odd point stores, at an index: the block product added to what the block held. -/
theorem pay3_apply (x : FVec Ideal S1x1x32x1024 .f32) (w0 : FVec Ideal S1x2048x1024 .f32) (w1 : FVec Ideal S1x1024x2048 .f32)
    (o : FVec Ideal S1x1x32x1024 .f32) (r : Fin 32) (d : Fin 1024) :
    k0_pay3 (F := Ideal) x w0 w1 o (ix4 0 0 r d) = o (ix4 0 0 r d) + part x w0 w1 r d := by
  unfold k0_pay3
  rw [← pay1_apply]
  generalize k0_pay1 (F := Ideal) x w0 w1 = p
  pointwise

/-- The three offsets of a load of a whole weights' block are zero. -/
theorem offsets3 : (![0, 0, 0] : Fin 3 → Nat) = fun _ => 0 := by decide
/-- The four offsets of a load or store of a whole token block are zero. -/
theorem offsets4 : (![0, 0, 0, 0] : Fin 4 → Nat) = fun _ => 0 := by decide

variable {F : FTy → Type} [FloatOps F] [Named F]

/-- An even point leaves in the output's block the block product of its input blocks. -/
theorem out_A (c : Dev nD) (i : grid0.Coords) (a2 : Memref sig .tc .vmem S1x1x32x1024 .f32) (h2 : a2.IsWhole)
    (a3 : Memref sig .tc .vmem S1x2048x1024 .f32) (h3 : a3.IsWhole) (a4 : Memref sig .tc .vmem S1x1024x2048 .f32) (h4 : a4.IsWhole)
    (a5 : Memref sig .tc .vmem S1x1x32x1024 .f32) (h5 : a5.IsWhole) (hc0 : cond0_0 i) (hc1 : ¬cond0_1 i)
    (x : Vec F S1x1x32x1024 .f32) (w0 : Vec F S1x2048x1024 .f32) (w1 : Vec F S1x1024x2048 .f32) :
    out0_A_3 c i a2 h2 a3 h3 a4 h4 a5 h5 hc0 hc1 x w0 w1 = k0_pay2 x w0 w1 := by
  unfold out0_A_3
  rw [View.read_writes_eq_canon _ _ _ (cover0_A_3 c i a2 h2 a3 h3 a4 h4 a5 h5 hc0 hc1 x w0 w1)]
  unfold kernelRun0_A
  dsimp only
  rw [View.canon_unit_zero offsets4]
  simp only [View.readAt_eq_ld, h2.read_unread, h3.read_unread, h4.read_unread,
    View.ld_unit_zero (S := S1x1x32x1024) offsets4, View.ld_unit_zero (S := S1x2048x1024) offsets3, View.ld_unit_zero (S := S1x1024x2048) offsets3]

/-- An odd point leaves the sum of what the block held and the block product of its input blocks. -/
theorem out_B (c : Dev nD) (i : grid0.Coords) (a2 : Memref sig .tc .vmem S1x1x32x1024 .f32) (h2 : a2.IsWhole)
    (a3 : Memref sig .tc .vmem S1x2048x1024 .f32) (h3 : a3.IsWhole) (a4 : Memref sig .tc .vmem S1x1024x2048 .f32) (h4 : a4.IsWhole)
    (a5 : Memref sig .tc .vmem S1x1x32x1024 .f32) (h5 : a5.IsWhole) (hc0 : ¬cond0_0 i) (hc1 : cond0_1 i)
    (x : Vec F S1x1x32x1024 .f32) (w0 : Vec F S1x2048x1024 .f32) (w1 : Vec F S1x1024x2048 .f32) (o : Vec F S1x1x32x1024 .f32) :
    out0_B_3 c i a2 h2 a3 h3 a4 h4 a5 h5 hc0 hc1 x w0 w1 o = k0_pay3 x w0 w1 o := by
  unfold out0_B_3
  rw [View.read_writes_eq_canon _ _ _ (cover0_B_3 c i a2 h2 a3 h3 a4 h4 a5 h5 hc0 hc1 x w0 w1 o)]
  unfold kernelRun0_B
  dsimp only
  rw [View.canon_unit_zero offsets4]
  simp only [View.readAt_eq_ld, h2.read_unread, h3.read_unread, h4.read_unread, h5.read_unread,
    View.ld_unit_zero (S := S1x1x32x1024) offsets4, View.ld_unit_zero (S := S1x2048x1024) offsets3, View.ld_unit_zero (S := S1x1024x2048) offsets3]

end Cert.KernelIdeal.Ffn
-- ==== Proof.Array.lean ====
/-
  What the kernel's result array holds after the run: the experts' perceptron of Spec.lean. Point `t` of the grid is
  expert `t / 2` at half `t % 2` of its hidden units; the block it works on is written back after the second half.
-/
module

public import proofs.«01_k».proof.Proof.Block

@[expose] public section

noncomputable section

namespace Cert.KernelIdeal.Ffn

open Idealize.ShloMosaic Idealize.ShloMosaic.TcCoe Idealize.SL.Sem Cert.KernelIdeal Cert.KernelIdeal.Gen Cert.Ffn
open scoped BigOperators

/-! ## Which blocks a point works on -/

/-- The token block of point `t`: expert `t / 2`. -/
theorem index_x : ∀ t : Fin cfg0.N, win0_0.index t = ![0, t.val / 2, 0, 0] := by decide +kernel
/-- The block of the first weights: expert `t / 2`, half `t % 2` of its rows. -/
theorem index_w0 : ∀ t : Fin cfg0.N, win0_1.index t = ![t.val / 2, t.val % 2, 0] := by decide +kernel
/-- The block of the second weights: expert `t / 2`, half `t % 2` of its columns. -/
theorem index_w1 : ∀ t : Fin cfg0.N, win0_2.index t = ![t.val / 2, 0, t.val % 2] := by decide +kernel
/-- The output block: expert `t / 2`. -/
theorem index_o : ∀ t : Fin cfg0.N, win0_3.index t = ![0, t.val / 2, 0, 0] := by decide +kernel

/-- The expert of point `t`. -/
def expert (t : Fin cfg0.N) : Fin 64 := ⟨t.val / 2, by have hN : cfg0.N = 128 := N_0; have := t.isLt; omega⟩
/-- The half of point `t`. -/
def half (t : Fin cfg0.N) : Fin 2 := ⟨t.val % 2, Nat.mod_lt _ (by decide)⟩

/-! ## What the input blocks hold -/

section Blocks

variable {F : FTy → Type} [FloatOps F] [Named F] (m : (ℓ : Loc nD τ sig) → Buf (Elt F) ℓ)

/-- The token block of point `t` holds its expert's tokens. -/
theorem read_x (c : Dev nD) (t : Fin cfg0.N) (r : Fin 32) (i : Fin 1024) :
    (iblk m c 0 t : Vec F S1x1x32x1024 .f32) (ix4 0 0 r i)
      = (m ((c : Thread nD τ).loc main_arg1) : Vec F S1x64x32x1024 .f32) (ix4 0 (expert t) r i) := by
  have h := index_x t
  unfold iblk
  rw [View.read_apply]
  show V m c main_arg1 _ = m (c.tc.loc main_arg1) _
  unfold V
  congr 1
  funext a
  apply Fin.ext
  match a with
  | ⟨0, _⟩ => show win0_0.index t 0 * 1 + 1 * 0 = 0; rw [h]; rfl
  | ⟨1, _⟩ => show win0_0.index t 1 * 1 + 1 * 0 = t.val / 2; rw [h]; show t.val / 2 * 1 + 1 * 0 = _; omega
  | ⟨2, _⟩ => show win0_0.index t 2 * 32 + 1 * r.val = r.val; rw [h]; show 0 * 32 + _ = _; omega
  | ⟨3, _⟩ => show win0_0.index t 3 * 1024 + 1 * i.val = i.val; rw [h]; show 0 * 1024 + _ = _; omega

/-- The first weights' block of point `t` holds its expert's rows for its half of the hidden units. -/
theorem read_w0 (c : Dev nD) (t : Fin cfg0.N) (k : Fin 2048) (i : Fin 1024) :
    (iblk m c 1 t : Vec F S1x2048x1024 .f32) (ix3 0 k i)
      = (m ((c : Thread nD τ).loc main_arg2) : Vec F S64x4096x1024 .f32) (ix3 (expert t) (unit (half t) k) i) := by
  have h := index_w0 t
  unfold iblk
  rw [View.read_apply]
  show V m c main_arg2 _ = m (c.tc.loc main_arg2) _
  unfold V
  congr 1
  funext a
  apply Fin.ext
  match a with
  | ⟨0, _⟩ => show win0_1.index t 0 * 1 + 1 * 0 = t.val / 2; rw [h]; show t.val / 2 * 1 + 1 * 0 = _; omega
  | ⟨1, _⟩ => show win0_1.index t 1 * 2048 + 1 * k.val = 2048 * (t.val % 2) + k.val; rw [h]; show t.val % 2 * 2048 + _ = _; omega
  | ⟨2, _⟩ => show win0_1.index t 2 * 1024 + 1 * i.val = i.val; rw [h]; show 0 * 1024 + _ = _; omega

/-- The second weights' block of point `t` holds its expert's columns for its half of the hidden units. -/
theorem read_w1 (c : Dev nD) (t : Fin cfg0.N) (d : Fin 1024) (k : Fin 2048) :
    (iblk m c 2 t : Vec F S1x1024x2048 .f32) (ix3 0 d k)
      = (m ((c : Thread nD τ).loc main_arg3) : Vec F S64x1024x4096 .f32) (ix3 (expert t) d (unit (half t) k)) := by
  have h := index_w1 t
  unfold iblk
  rw [View.read_apply]
  show V m c main_arg3 _ = m (c.tc.loc main_arg3) _
  unfold V
  congr 1
  funext a
  apply Fin.ext
  match a with
  | ⟨0, _⟩ => show win0_2.index t 0 * 1 + 1 * 0 = t.val / 2; rw [h]; show t.val / 2 * 1 + 1 * 0 = _; omega
  | ⟨1, _⟩ => show win0_2.index t 1 * 1024 + 1 * d.val = d.val; rw [h]; show 0 * 1024 + _ = _; omega
  | ⟨2, _⟩ => show win0_2.index t 2 * 2048 + 1 * k.val = 2048 * (t.val % 2) + k.val; rw [h]; show t.val % 2 * 2048 + _ = _; omega

end Blocks

/-! ## The output block over the two points of an expert -/

variable (m : (ℓ : Loc nD τ sig) → Buf (Elt Ideal) ℓ)

/-- The result: the perceptron of the arguments' launch contents. -/
def result (c : Dev nD) : Buf (Elt Ideal) ((c : Thread nD τ).loc main_v0) :=
  out (m ((c : Thread nD τ).loc main_arg1)) (m ((c : Thread nD τ).loc main_arg2)) (m ((c : Thread nD τ).loc main_arg3))

/-- The share of half `b` of expert `e`'s hidden units in output coordinate `d` of token `r`. -/
def share (c : Dev nD) (e : Fin 64) (b : Fin 2) (r : Fin 32) (d : Fin 1024) : EReal :=
  ∑ k : Fin 2048, term (m ((c : Thread nD τ).loc main_arg1)) (m ((c : Thread nD τ).loc main_arg2))
    (m ((c : Thread nD τ).loc main_arg3)) e r d (unit b k)

/-- The block product at point `t` is its expert's share of its half. -/
theorem part_eq (c : Dev nD) (t : Fin cfg0.N) (r : Fin 32) (d : Fin 1024) :
    part (iblk m c 0 t) (iblk m c 1 t) (iblk m c 2 t) r d = share m c (expert t) (half t) r d := by
  unfold part share
  refine Finset.sum_congr rfl fun k _ => ?_
  have hh : bhidden (iblk m c 0 t) (iblk m c 1 t) r k
      = hidden (m ((c : Thread nD τ).loc main_arg1)) (m ((c : Thread nD τ).loc main_arg2)) (expert t) r (unit (half t) k) :=
    Finset.sum_congr rfl fun i _ => congrArg₂ (· * ·) (read_x m c t r i) (read_w0 m c t k i)
  exact congrArg₂ (· * ·) (congrArg act hh) (read_w1 m c t d k)

/-- After an even point the output block holds the share of the first half. -/
theorem outs_even (c : Dev nD) (t : Fin cfg0.N) (h0 : t.val % 2 = 0) (r : Fin 32) (d : Fin 1024) :
    outsAt0 m c t.val t.isLt (ix4 0 0 r d) = share m c (expert t) (half t) r d := by
  rw [outsAt0_A m c t h0 (by omega), out_A]
  exact (pay2_apply _ _ _ r d).trans (part_eq m c t r d)

/-- After an odd point it holds the whole sum. -/
theorem outs_odd (c : Dev nD) (t : Fin cfg0.N) (h1 : t.val % 2 = 1) (r : Fin 32) (d : Fin 1024) :
    outsAt0 m c t.val t.isLt (ix4 0 0 r d) = share m c (expert t) 0 r d + share m c (expert t) 1 r d := by
  have hp : t.val - 1 < cfg0.N := Nat.lt_of_le_of_lt (Nat.sub_le _ _) t.isLt
  have he : expert ⟨t.val - 1, hp⟩ = expert t := Fin.ext (show (t.val - 1) / 2 = t.val / 2 by omega)
  have hb0 : half ⟨t.val - 1, hp⟩ = 0 := Fin.ext (show (t.val - 1) % 2 = 0 by omega)
  have hb1 : half t = 1 := Fin.ext h1
  rw [outsAt0_B m c t (by omega) h1, out_B]
  refine (pay3_apply _ _ _ _ r d).trans (congrArg₂ (· + ·) ?_ ?_)
  · rw [outs_even m c ⟨t.val - 1, hp⟩ (show (t.val - 1) % 2 = 0 by omega), he, hb0]
  · rw [part_eq, hb1]

/-- The two shares make up the result. -/
theorem shares_eq (c : Dev nD) (e : Fin 64) (r : Fin 32) (d : Fin 1024) :
    share m c e 0 r d + share m c e 1 r d = result m c (ix4 0 e r d) :=
  (sum_halves _).symm

/-! ## The result array -/

/-- What an odd point writes back is its block of the result. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h := index_o t
  rw [Value.flushed3]
  funext y
  rw [View.read_apply]
  obtain ⟨g, e, r, d, rfl⟩ : ∃ (g e : Fin 1) (r : Fin 32) (d : Fin 1024), y = (ix4 g e r d : S1x1x32x1024.Idx) :=
    ⟨y 0, y 1, y 2, y 3, eq_ix4 (n0 := 1) (n1 := 1) (n2 := 32) (n3 := 1024) y⟩
  obtain rfl : g = 0 := Subsingleton.elim _ _
  obtain rfl : e = 0 := Subsingleton.elim _ _
  show outsAt0 m c t.val t.isLt (ix4 0 0 r d) = _
  rw [outs_odd m c t h1, shares_eq]
  congr 1
  funext a
  apply Fin.ext
  match a with
  | ⟨0, _⟩ => show 0 = win0_3.index t 0 * 1 + 1 * 0; rw [h]; rfl
  | ⟨1, _⟩ => show t.val / 2 = win0_3.index t 1 * 1 + 1 * 0; rw [h]; show _ = t.val / 2 * 1 + 1 * 0; omega
  | ⟨2, _⟩ => show r.val = win0_3.index t 2 * 32 + 1 * r.val; rw [h]; show _ = 0 * 32 + _; omega
  | ⟨3, _⟩ => show d.val = win0_3.index t 3 * 1024 + 1 * d.val; rw [h]; show _ = 0 * 1024 + _; omega

/-- The second point of every expert writes its block back, and these blocks cover the array. -/
theorem final_eq (c : Dev nD) : (dats m 0 c).arrAt 3 cfg0.N = result m c :=
  (dats m 0 c).arrAt_eq_of_cover 3 (result m c) (flushed_eq m c) fun i => by
    have hN : cfg0.N = 128 := N_0
    have i0 : (i 0 : Nat) < 1 := (i 0).isLt
    have i1 : (i 1 : Nat) < 64 := (i 1).isLt
    have i2 : (i 2 : Nat) < 32 := (i 2).isLt
    have i3 : (i 3 : Nat) < 1024 := (i 3).isLt
    have ht : 2 * (i 1 : Nat) + 1 < cfg0.N := by omega
    have h := index_o ⟨2 * (i 1 : Nat) + 1, ht⟩
    have hd : (2 * (i 1 : Nat) + 1) / 2 = (i 1 : Nat) := by omega
    refine ⟨⟨2 * (i 1 : Nat) + 1, ht⟩, (flush0_3 _).mpr (show (2 * (i 1 : Nat) + 1) % 2 = 1 by omega), ?_⟩
    show i ∈ ((View.whole main_v0).slice (win0_3.rect ⟨2 * (i 1 : Nat) + 1, ht⟩)).set
    rw [View.set_slice_whole, Rect.mem_set_unit]
    intro a
    match a with
    | ⟨0, _⟩ => show win0_3.index ⟨2 * (i 1 : Nat) + 1, ht⟩ 0 * 1 ≤ (i 0 : Nat) ∧ (i 0 : Nat) < win0_3.index ⟨2 * (i 1 : Nat) + 1, ht⟩ 0 * 1 + 1
                rw [h]; show 0 * 1 ≤ _ ∧ _ < 0 * 1 + 1; omega
    | ⟨1, _⟩ => show win0_3.index ⟨2 * (i 1 : Nat) + 1, ht⟩ 1 * 1 ≤ (i 1 : Nat) ∧ (i 1 : Nat) < win0_3.index ⟨2 * (i 1 : Nat) + 1, ht⟩ 1 * 1 + 1
                rw [h]; show (2 * (i 1 : Nat) + 1) / 2 * 1 ≤ _ ∧ _ < (2 * (i 1 : Nat) + 1) / 2 * 1 + 1; omega
    | ⟨2, _⟩ => show win0_3.index ⟨2 * (i 1 : Nat) + 1, ht⟩ 2 * 32 ≤ (i 2 : Nat) ∧ (i 2 : Nat) < win0_3.index ⟨2 * (i 1 : Nat) + 1, ht⟩ 2 * 32 + 32
                rw [h]; show 0 * 32 ≤ _ ∧ _ < 0 * 32 + 32; omega
    | ⟨3, _⟩ => show win0_3.index ⟨2 * (i 1 : Nat) + 1, ht⟩ 3 * 1024 ≤ (i 3 : Nat) ∧ (i 3 : Nat) < win0_3.index ⟨2 * (i 1 : Nat) + 1, ht⟩ 3 * 1024 + 1024
                rw [h]; show 0 * 1024 ≤ _ ∧ _ < 0 * 1024 + 1024; omega

/-- The kernel's run: its result is the perceptron of the arguments, which are unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end Cert.KernelIdeal.Ffn
-- ==== Proof.RefValue.lean ====
/-
  What the reference computes, at an index: the experts' perceptron of Spec.lean.
-/
module

public import proofs.«01_k».proof.Proof.Gen.ReferenceIdeal.Run
public import proofs.«01_k».proof.Proof.Spec
public import Idealize.ShloMosaic.Lib.Pipeline.Value

@[expose] public section

noncomputable section

namespace Cert.ReferenceIdeal.Ffn

open Idealize.ShloMosaic Cert.ReferenceIdeal Cert.ReferenceIdeal.Gen Cert.Ffn
open scoped BigOperators

/-- The first product with its axes put in order is the hidden layer before the gelu. -/
theorem hidden_eq (x : FVec Ideal S1x64x32x1024 .f32) (w0 : FVec Ideal S64x4096x1024 .f32)
    (g : Fin 1) (e : Fin 64) (c : Fin 32) (f : Fin 4096) :
    transpose S1x64x32x4096 [2, 0, 3, 1] (Host.dotGeneral dot_S64x4096x1024_S1x64x32x1024_S64x4096x1x32_2_3_1_02_0_1 none w0 x) transposes_S64x4096x1x32_S1x64x32x4096_2_0_3_1 (ix4 g e c f)
      = hidden x w0 e c f := by
  obtain rfl : g = 0 := Subsingleton.elim _ _
  pointwise
  exact Finset.sum_congr rfl fun k _ => mul_comm _ _

/-- The gelu as the reference spells it, `h / 2 · erfc (-h · √(1/2))`, is the gelu of Spec.lean at every element. -/
theorem act_eq (h : FVec Ideal S1x64x32x4096 .f32) (j : S1x64x32x4096.Idx) :
    mulf (mulf (broadcastInDim S1x64x32x4096 ![] bcast_S_S1x64x32x4096 (constant S_ .f32 0x3F000000#32)) h)
      (Host.erfc (mulf (Host.negf h) (broadcastInDim S1x64x32x4096 ![] bcast_S_S1x64x32x4096 (Host.sqrt (constant S_ .f32 0x3F000000#32))))) j
      = act (h j) := by
  pointwise
  rw [half_eq, sqrt_half_eq, act, neg_mul, Ideal.erfc_neg]

/-- The second product with its axes put in order, of any hidden layer. -/
theorem second_eq (w1 : FVec Ideal S64x1024x4096 .f32) (a : FVec Ideal S1x64x32x4096 .f32)
    (g : Fin 1) (e : Fin 64) (c : Fin 32) (d : Fin 1024) :
    transpose S1x64x32x1024 [2, 0, 3, 1] (Host.dotGeneral dot_S64x1024x4096_S1x64x32x4096_S64x1024x1x32_2_3_1_02_0_1 none w1 a) transposes_S64x1024x1x32_S1x64x32x1024_2_0_3_1 (ix4 g e c d)
      = ∑ f : Fin 4096, a (ix4 0 e c f) * w1 (ix3 e d f) := by
  obtain rfl : g = 0 := Subsingleton.elim _ _
  pointwise
  exact Finset.sum_congr rfl fun k _ => mul_comm _ _

/-- The reference's result: the second piece of its concatenation is empty, and the first is the experts' output. -/
theorem result_eq (x : FVec Ideal S1x64x32x1024 .f32) (w0 : FVec Ideal S64x4096x1024 .f32) (w1 : FVec Ideal S64x1024x4096 .f32) :
    concatenate S1x64x32x1024 1 [⟨S1x64x32x1024, (transpose S1x64x32x1024 [2, 0, 3, 1] (Host.dotGeneral dot_S64x1024x4096_S1x64x32x4096_S64x1024x1x32_2_3_1_02_0_1 none w1 (mulf (mulf (broadcastInDim S1x64x32x4096 ![] bcast_S_S1x64x32x4096 (constant S_ .f32 0x3F000000#32)) (transpose S1x64x32x4096 [2, 0, 3, 1] (Host.dotGeneral dot_S64x4096x1024_S1x64x32x1024_S64x4096x1x32_2_3_1_02_0_1 none w0 x) transposes_S64x4096x1x32_S1x64x32x4096_2_0_3_1)) (Host.erfc (mulf (Host.negf (transpose S1x64x32x4096 [2, 0, 3, 1] (Host.dotGeneral dot_S64x4096x1024_S1x64x32x1024_S64x4096x1x32_2_3_1_02_0_1 none w0 x) transposes_S64x4096x1x32_S1x64x32x4096_2_0_3_1)) (broadcastInDim S1x64x32x4096 ![] bcast_S_S1x64x32x4096 (Host.sqrt (constant S_ .f32 0x3F000000#32))))))) transposes_S64x1024x1x32_S1x64x32x1024_2_0_3_1)⟩, ⟨S1x0x32x1024, (broadcastInDim S1x0x32x1024 ![] bcast_S_S1x0x32x1024 (constant S_ .f32 0x00000000#32))⟩] concatenates_S1x64x32x1024_S1x0x32x1024_S1x64x32x1024_d1
      = out x w0 w1 := by
  funext j
  obtain ⟨g, e, c, d, rfl⟩ : ∃ (g : Fin 1) (e : Fin 64) (c : Fin 32) (d : Fin 1024), j = ix4 g e c d :=
    ⟨j 0, j 1, j 2, j 3, eq_ix4 j⟩
  refine (concatenate_pair_apply_left _ _ _ _ (ix4 g e c d) rfl (ix4 g e c d) fun _ => rfl).trans ?_
  rw [second_eq]
  refine Finset.sum_congr rfl fun f _ => ?_
  rw [act_eq, hidden_eq]
  rfl

end Cert.ReferenceIdeal.Ffn
-- ==== Proof.lean ====
/-
  The proof of `Cert.Claim`, assembled: the frames from the generated runs, `preserves` from the rule of the named
  constant, and the equation of the kernel's and the reference's results from Proof/Array.lean (what the kernel's
  result array holds) and Proof/RefValue.lean (what the reference computes), both of which end at the one function of
  Proof/Spec.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its arguments unchanged and every counter at zero. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's one rewritten constant denotes the real number it is named after. -/
theorem preserves : Cert.preserves_Kernel_KernelIdeal :=
  IdealRules.named_const.statement Cert.KernelIdeal.κ "inv_sqrt_2" .f32 0x3F3504F3#32 (((Real.sqrt 2)⁻¹ : ℝ) : EReal) rfl

/-- From equal arguments the kernel and the reference end with equal results: both are the perceptron of Spec.lean. -/
theorem algebraic : Cert.algebraic_KernelIdeal_ReferenceIdeal (hKernelIdeal := Cert.KernelIdeal.Gen.facts)
    (hReferenceIdeal := Cert.ReferenceIdeal.Gen.facts) := fun m ρ m' ρ' _ hargs =>
  ⟨Cert.KernelIdeal.Ffn.result m, Cert.KernelIdeal.Ffn.run m ρ,
    (θ_run Cert.ReferenceIdeal.defs _ _).mono
      (fun r h c => ⟨by
        obtain ⟨_, h1, h2, h3⟩ := hargs c
        refine ((h c).1.trans (Cert.ReferenceIdeal.Ffn.result_eq _ _ _)).trans ?_
        rw [h1, h2, h3]
        rfl, (h c).2⟩)
      (Cert.ReferenceIdeal.Value.run (F := Ideal) m' ρ')⟩

/-- The certificate: the three frames, `preserves` and the equation of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ri, preserves, algebraic⟩

end Cert.Proof

end
